-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x32x32 : Shape := ⟨3, ![2048, 32, 32]⟩
abbrev S2048x32x28 : Shape := ⟨3, ![2048, 32, 28]⟩
abbrev S28x128 : Shape := ⟨2, ![28, 128]⟩
abbrev S128 : Shape := ⟨1, ![128]⟩
abbrev S128x128 : Shape := ⟨2, ![128, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S2048x32x128 : Shape := ⟨3, ![2048, 32, 128]⟩
abbrev S2048x28x32 : Shape := ⟨3, ![2048, 28, 32]⟩
abbrev S2048x28x128 : Shape := ⟨3, ![2048, 28, 128]⟩
abbrev S1x128 : Shape := ⟨2, ![1, 128]⟩
abbrev S1x512 : Shape := ⟨2, ![1, 512]⟩
abbrev S1x1 : Shape := ⟨2, ![1, 1]⟩
abbrev S2048x1 : Shape := ⟨2, ![2048, 1]⟩
abbrev S128x32x128 : Shape := ⟨3, ![128, 32, 128]⟩
abbrev S128x28x128 : Shape := ⟨3, ![128, 28, 128]⟩
abbrev S128x1 : Shape := ⟨2, ![128, 1]⟩
abbrev S128x128x128 : Shape := ⟨3, ![128, 128, 128]⟩
abbrev S1x1x128 : Shape := ⟨3, ![1, 1, 128]⟩
abbrev S16384x128 : Shape := ⟨2, ![16384, 128]⟩
abbrev S128x32x32 : Shape := ⟨3, ![128, 32, 32]⟩
abbrev S128x4x32x128 : Shape := ⟨4, ![128, 4, 32, 128]⟩
abbrev S128x4x128 : Shape := ⟨3, ![128, 4, 128]⟩
abbrev S128x512 : Shape := ⟨2, ![128, 512]⟩
abbrev S128x1x128 : Shape := ⟨3, ![128, 1, 128]⟩
abbrev S2048 : Shape := ⟨1, ![2048]⟩

abbrev nBuf : Space → Nat
  | .hbm => 29
  | .vmem => 15
  | .smem => 0
  | _ => 0

abbrev bufTy : (tb : Table) → Fin (tcTables nBuf tb) → BufTy
  | .hbm, ⟨0, _⟩ => ⟨S2048x32x32, .f32⟩
  | .hbm, ⟨1, _⟩ => ⟨S2048x32x28, .f32⟩
  | .hbm, ⟨2, _⟩ => ⟨S2048x32x32, .f32⟩
  | .hbm, ⟨3, _⟩ => ⟨S2048x32x28, .f32⟩
  | .hbm, ⟨4, _⟩ => ⟨S2048x32x32, .f32⟩
  | .hbm, ⟨5, _⟩ => ⟨S2048x32x28, .f32⟩
  | .hbm, ⟨6, _⟩ => ⟨S2048x32x32, .f32⟩
  | .hbm, ⟨7, _⟩ => ⟨S2048x32x28, .f32⟩
  | .hbm, ⟨8, _⟩ => ⟨S28x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S2048x32x128, .f32⟩
  | .hbm, ⟨18, _⟩ => ⟨S2048x28x32, .f32⟩
  | .hbm, ⟨19, _⟩ => ⟨S2048x28x32, .f32⟩
  | .hbm, ⟨20, _⟩ => ⟨S2048x28x32, .f32⟩
  | .hbm, ⟨21, _⟩ => ⟨S2048x28x32, .f32⟩
  | .hbm, ⟨22, _⟩ => ⟨S2048x28x128, .f32⟩
  | .hbm, ⟨23, _⟩ => ⟨S1x128, .f32⟩
  | .hbm, ⟨24, _⟩ => ⟨S1x128, .f32⟩
  | .hbm, ⟨25, _⟩ => ⟨S1x512, .f32⟩
  | .hbm, ⟨26, _⟩ => ⟨S1x1, .f32⟩
  | .hbm, ⟨27, _⟩ => ⟨S2048x1, .f32⟩
  | .hbm, ⟨28, _⟩ => ⟨S2048, .f32⟩
  | .local _ .vmem, ⟨0, _⟩ => ⟨S128x32x128, .f32⟩
  | .local _ .vmem, ⟨1, _⟩ => ⟨S128x32x128, .f32⟩
  | .local _ .vmem, ⟨2, _⟩ => ⟨S128x28x128, .f32⟩
  | .local _ .vmem, ⟨3, _⟩ => ⟨S128x28x128, .f32⟩
  | .local _ .vmem, ⟨4, _⟩ => ⟨S28x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S512x512, .f32⟩
  | .local _ .vmem, ⟨10, _⟩ => ⟨S1x512, .f32⟩
  | .local _ .vmem, ⟨11, _⟩ => ⟨S512x1, .f32⟩
  | .local _ .vmem, ⟨12, _⟩ => ⟨S1x1, .f32⟩
  | .local _ .vmem, ⟨13, _⟩ => ⟨S128x1, .f32⟩
  | .local _ .vmem, ⟨14, _⟩ => ⟨S128x1, .f32⟩
  | _, _ => ⟨S2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x28x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S28x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x32x32 : Shape := ⟨3, ![2048, 32, 32]⟩
abbrev S2048x32x28 : Shape := ⟨3, ![2048, 32, 28]⟩
abbrev S28x128 : Shape := ⟨2, ![28, 128]⟩
abbrev S128 : Shape := ⟨1, ![128]⟩
abbrev S128x128 : Shape := ⟨2, ![128, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S2048x32x128 : Shape := ⟨3, ![2048, 32, 128]⟩
abbrev S1x1x128 : Shape := ⟨3, ![1, 1, 128]⟩
abbrev S_ : Shape := ⟨0, ![]⟩
abbrev S2048x128 : Shape := ⟨2, ![2048, 128]⟩
abbrev S2048x512 : Shape := ⟨2, ![2048, 512]⟩
abbrev S1x512 : Shape := ⟨2, ![1, 512]⟩
abbrev S2048x1 : Shape := ⟨2, ![2048, 1]⟩
abbrev S1x1 : Shape := ⟨2, ![1, 1]⟩
abbrev S2048 : Shape := ⟨1, ![2048]⟩

abbrev nBuf : Space → Nat
  | .hbm => 155
  | .vmem => 0
  | .smem => 0
  | _ => 0

abbrev hbmTy0_0 (i : Nat) : BufTy := match i % 128 with
  | 0 => ⟨S2048x32x32, .f32⟩
  | 1 => ⟨S2048x32x28, .f32⟩
  | 2 => ⟨S2048x32x32, .f32⟩
  | 3 => ⟨S2048x32x28, .f32⟩
  | 4 => ⟨S2048x32x32, .f32⟩
  | 5 => ⟨S2048x32x28, .f32⟩
  | 6 => ⟨S2048x32x32, .f32⟩
  | 7 => ⟨S2048x32x28, .f32⟩
  | 8 => ⟨S28x128, .f32⟩
  | 9 => ⟨S128, .f32⟩
  | 10 => ⟨S128x128, .f32⟩
  | 11 => ⟨S128x128, .f32⟩
  | 12 => ⟨S128, .f32⟩
  | 13 => ⟨S512x512, .f32⟩
  | 14 => ⟨S512, .f32⟩
  | 15 => ⟨S512x1, .f32⟩
  | 16 => ⟨S1, .f32⟩
  | 17 => ⟨S2048x32x128, .f32⟩
  | 18 => ⟨S1x1x128, .f32⟩
  | 19 => ⟨S2048x32x128, .f32⟩
  | 20 => ⟨S2048x32x128, .f32⟩
  | 21 => ⟨S2048x32x128, .f32⟩
  | 22 => ⟨S2048x32x128, .f32⟩
  | 23 => ⟨S2048x32x128, .f32⟩
  | 24 => ⟨S2048x32x128, .f32⟩
  | 25 => ⟨S2048x32x128, .f32⟩
  | 26 => ⟨S1x1x128, .f32⟩
  | 27 => ⟨S2048x32x128, .f32⟩
  | 28 => ⟨S2048x32x128, .f32⟩
  | 29 => ⟨S2048x32x128, .f32⟩
  | 30 => ⟨S2048x32x128, .f32⟩
  | 31 => ⟨S2048x32x128, .f32⟩
  | 32 => ⟨S2048x32x128, .f32⟩
  | 33 => ⟨S2048x32x128, .f32⟩
  | 34 => ⟨S1x1x128, .f32⟩
  | 35 => ⟨S2048x32x128, .f32⟩
  | 36 => ⟨S2048x32x128, .f32⟩
  | 37 => ⟨S2048x32x128, .f32⟩
  | 38 => ⟨S2048x32x128, .f32⟩
  | 39 => ⟨S2048x32x128, .f32⟩
  | 40 => ⟨S2048x32x128, .f32⟩
  | 41 => ⟨S2048x32x128, .f32⟩
  | 42 => ⟨S1x1x128, .f32⟩
  | 43 => ⟨S2048x32x128, .f32⟩
  | 44 => ⟨S2048x32x128, .f32⟩
  | 45 => ⟨S2048x32x128, .f32⟩
  | 46 => ⟨S_, .f32⟩
  | 47 => ⟨S2048x128, .f32⟩
  | 48 => ⟨S2048x32x128, .f32⟩
  | 49 => ⟨S1x1x128, .f32⟩
  | 50 => ⟨S2048x32x128, .f32⟩
  | 51 => ⟨S2048x32x128, .f32⟩
  | 52 => ⟨S2048x32x128, .f32⟩
  | 53 => ⟨S2048x32x128, .f32⟩
  | 54 => ⟨S2048x32x128, .f32⟩
  | 55 => ⟨S2048x32x128, .f32⟩
  | 56 => ⟨S2048x32x128, .f32⟩
  | 57 => ⟨S1x1x128, .f32⟩
  | 58 => ⟨S2048x32x128, .f32⟩
  | 59 => ⟨S2048x32x128, .f32⟩
  | 60 => ⟨S2048x32x128, .f32⟩
  | 61 => ⟨S2048x32x128, .f32⟩
  | 62 => ⟨S2048x32x128, .f32⟩
  | 63 => ⟨S2048x32x128, .f32⟩
  | 64 => ⟨S2048x32x128, .f32⟩
  | 65 => ⟨S1x1x128, .f32⟩
  | 66 => ⟨S2048x32x128, .f32⟩
  | 67 => ⟨S2048x32x128, .f32⟩
  | 68 => ⟨S2048x32x128, .f32⟩
  | 69 => ⟨S2048x32x128, .f32⟩
  | 70 => ⟨S2048x32x128, .f32⟩
  | 71 => ⟨S2048x32x128, .f32⟩
  | 72 => ⟨S2048x32x128, .f32⟩
  | 73 => ⟨S1x1x128, .f32⟩
  | 74 => ⟨S2048x32x128, .f32⟩
  | 75 => ⟨S2048x32x128, .f32⟩
  | 76 => ⟨S2048x32x128, .f32⟩
  | 77 => ⟨S_, .f32⟩
  | 78 => ⟨S2048x128, .f32⟩
  | 79 => ⟨S2048x32x128, .f32⟩
  | 80 => ⟨S1x1x128, .f32⟩
  | 81 => ⟨S2048x32x128, .f32⟩
  | 82 => ⟨S2048x32x128, .f32⟩
  | 83 => ⟨S2048x32x128, .f32⟩
  | 84 => ⟨S2048x32x128, .f32⟩
  | 85 => ⟨S2048x32x128, .f32⟩
  | 86 => ⟨S2048x32x128, .f32⟩
  | 87 => ⟨S2048x32x128, .f32⟩
  | 88 => ⟨S1x1x128, .f32⟩
  | 89 => ⟨S2048x32x128, .f32⟩
  | 90 => ⟨S2048x32x128, .f32⟩
  | 91 => ⟨S2048x32x128, .f32⟩
  | 92 => ⟨S2048x32x128, .f32⟩
  | 93 => ⟨S2048x32x128, .f32⟩
  | 94 => ⟨S2048x32x128, .f32⟩
  | 95 => ⟨S2048x32x128, .f32⟩
  | 96 => ⟨S1x1x128, .f32⟩
  | 97 => ⟨S2048x32x128, .f32⟩
  | 98 => ⟨S2048x32x128, .f32⟩
  | 99 => ⟨S2048x32x128, .f32⟩
  | 100 => ⟨S2048x32x128, .f32⟩
  | 101 => ⟨S2048x32x128, .f32⟩
  | 102 => ⟨S2048x32x128, .f32⟩
  | 103 => ⟨S2048x32x128, .f32⟩
  | 104 => ⟨S1x1x128, .f32⟩
  | 105 => ⟨S2048x32x128, .f32⟩
  | 106 => ⟨S2048x32x128, .f32⟩
  | 107 => ⟨S2048x32x128, .f32⟩
  | 108 => ⟨S_, .f32⟩
  | 109 => ⟨S2048x128, .f32⟩
  | 110 => ⟨S2048x32x128, .f32⟩
  | 111 => ⟨S1x1x128, .f32⟩
  | 112 => ⟨S2048x32x128, .f32⟩
  | 113 => ⟨S2048x32x128, .f32⟩
  | 114 => ⟨S2048x32x128, .f32⟩
  | 115 => ⟨S2048x32x128, .f32⟩
  | 116 => ⟨S2048x32x128, .f32⟩
  | 117 => ⟨S2048x32x128, .f32⟩
  | 118 => ⟨S2048x32x128, .f32⟩
  | 119 => ⟨S1x1x128, .f32⟩
  | 120 => ⟨S2048x32x128, .f32⟩
  | 121 => ⟨S2048x32x128, .f32⟩
  | 122 => ⟨S2048x32x128, .f32⟩
  | 123 => ⟨S2048x32x128, .f32⟩
  | 124 => ⟨S2048x32x128, .f32⟩
  | 125 => ⟨S2048x32x128, .f32⟩
  | 126 => ⟨S2048x32x128, .f32⟩
  | 127 => ⟨S1x1x128, .f32⟩
  | _ => ⟨S2048x32x32, .f32⟩

abbrev hbmTy0_1 (i : Nat) : BufTy := match i % 128 with
  | 0 => ⟨S2048x32x128, .f32⟩
  | 1 => ⟨S2048x32x128, .f32⟩
  | 2 => ⟨S2048x32x128, .f32⟩
  | 3 => ⟨S2048x32x128, .f32⟩
  | 4 => ⟨S2048x32x128, .f32⟩
  | 5 => ⟨S2048x32x128, .f32⟩
  | 6 => ⟨S2048x32x128, .f32⟩
  | 7 => ⟨S1x1x128, .f32⟩
  | 8 => ⟨S2048x32x128, .f32⟩
  | 9 => ⟨S2048x32x128, .f32⟩
  | 10 => ⟨S2048x32x128, .f32⟩
  | 11 => ⟨S_, .f32⟩
  | 12 => ⟨S2048x128, .f32⟩
  | 13 => ⟨S2048x512, .f32⟩
  | 14 => ⟨S2048x512, .f32⟩
  | 15 => ⟨S1x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S2048x1, .f32⟩
  | 22 => ⟨S1x1, .f32⟩
  | 23 => ⟨S2048x1, .f32⟩
  | 24 => ⟨S2048x1, .f32⟩
  | 25 => ⟨S2048x1, .f32⟩
  | 26 => ⟨S2048, .f32⟩
  | _ => ⟨S2048x32x32, .f32⟩

abbrev hbmTy (i : Nat) : BufTy := match i / 128 with
  | 0 => hbmTy0_0 i
  | 1 => hbmTy0_1 i
  | _ => ⟨S2048x32x32, .f32⟩

abbrev bufTy : (tb : Table) → Fin (tcTables nBuf tb) → BufTy
  | .hbm, ⟨i, _⟩ => hbmTy i
  | _, _ => ⟨S2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_0 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_1 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_2 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_call0_cst : Ref sig .tc := ⟨.hbm, 146, rfl⟩
abbrev main_call0_v0 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩

abbrev nD : Nat := 1
abbrev τ : Topo := Topo.v7x

variable {F : FTy → Type} [FloatOps F]
-- ==== Proof.Spec.lean ====
/- The network's arithmetic on extended reals, with no array layout: one molecule's message passing and the head that
   scores four molecule embeddings. Both programs are shown to compute these functions. -/
module

public import Idealize.ShloMosaic.PureOps.Ideal
public import Idealize.ShloMosaic.PureOps.Ideal.Laws
public import Idealize.ShloMosaic.Lib.Pointwise.Index

@[expose] public section

noncomputable section

namespace Cert.Net

open Idealize.ShloMosaic

/-- The hidden state an atom starts from: `tanh` of a linear map of its 28 features plus a bias. -/
def start (Win : Fin 28 → Fin 128 → EReal) (bin : Fin 128 → EReal) (X : Fin 32 → Fin 28 → EReal) :
    Fin 32 → Fin 128 → EReal :=
  fun i d => Ideal.tanh ((∑ f, X i f * Win f d) + bin d)

/-- One round of message passing: an atom's new state from its own state and the `A`-weighted sum of all atoms' states. -/
def pass (Ws Wm : Fin 128 → Fin 128 → EReal) (bm : Fin 128 → EReal) (A : Fin 32 → Fin 32 → EReal)
    (h : Fin 32 → Fin 128 → EReal) : Fin 32 → Fin 128 → EReal :=
  fun i d => Ideal.tanh ((∑ k, h i k * Ws k d) + (∑ k, (∑ j, A i j * h j k) * Wm k d) + bm d)

/-- A molecule's embedding: its atoms' states after three rounds, summed over the atoms. -/
def embedding (Win : Fin 28 → Fin 128 → EReal) (bin : Fin 128 → EReal) (Ws Wm : Fin 128 → Fin 128 → EReal)
    (bm : Fin 128 → EReal) (A : Fin 32 → Fin 32 → EReal) (X : Fin 32 → Fin 28 → EReal) : Fin 128 → EReal :=
  fun d => ∑ i, pass Ws Wm bm A (pass Ws Wm bm A (pass Ws Wm bm A (start Win bin X))) i d

/-- Place `k` of molecule `t` among the 512 joined embedding entries. -/
def joint (t : Fin 4) (k : Fin 128) : Fin 512 := ⟨128 * t.val + k.val, by omega⟩

/-- The head on four embeddings: a hidden layer of 512 rectified units, a linear output, its absolute value. -/
def head (W1 : Fin 512 → Fin 512 → EReal) (b1 : Fin 512 → EReal) (W2 : Fin 512 → EReal) (b2 : EReal)
    (e : Fin 4 → Fin 128 → EReal) : EReal :=
  let y : EReal := (∑ o, max ((∑ t, ∑ k, e t k * W1 (joint t k) o) + b1 o) 0 * W2 o) + b2
  max y (-y)

/-- The whole network on one row of the batch: the head on the embeddings of the row's four molecules. -/
def score (Win : Fin 28 → Fin 128 → EReal) (bin : Fin 128 → EReal) (Ws Wm : Fin 128 → Fin 128 → EReal)
    (bm : Fin 128 → EReal) (W1 : Fin 512 → Fin 512 → EReal) (b1 : Fin 512 → EReal) (W2 : Fin 512 → EReal) (b2 : EReal)
    (A : Fin 4 → Fin 32 → Fin 32 → EReal) (X : Fin 4 → Fin 32 → Fin 28 → EReal) : EReal :=
  head W1 b1 W2 b2 fun t => embedding Win bin Ws Wm bm (A t) (X t)

/-- Scores agree when their parameters and inputs agree entry by entry. -/
theorem score_congr {Win Win' : Fin 28 → Fin 128 → EReal} {bin bin' : Fin 128 → EReal}
    {Ws Ws' Wm Wm' : Fin 128 → Fin 128 → EReal} {bm bm' : Fin 128 → EReal} {W1 W1' : Fin 512 → Fin 512 → EReal}
    {b1 b1' W2 W2' : Fin 512 → EReal} {b2 b2' : EReal} {A A' : Fin 4 → Fin 32 → Fin 32 → EReal}
    {X X' : Fin 4 → Fin 32 → Fin 28 → EReal} (hWin : ∀ f d, Win f d = Win' f d) (hbin : ∀ d, bin d = bin' d)
    (hWs : ∀ k d, Ws k d = Ws' k d) (hWm : ∀ k d, Wm k d = Wm' k d) (hbm : ∀ d, bm d = bm' d)
    (hW1 : ∀ q o, W1 q o = W1' q o) (hb1 : ∀ o, b1 o = b1' o) (hW2 : ∀ o, W2 o = W2' o) (hb2 : b2 = b2')
    (hA : ∀ t i j, A t i j = A' t i j) (hX : ∀ t i f, X t i f = X' t i f) :
    score Win bin Ws Wm bm W1 b1 W2 b2 A X = score Win' bin' Ws' Wm' bm' W1' b1' W2' b2' A' X' := by
  obtain rfl : Win = Win' := funext₂ hWin
  obtain rfl : bin = bin' := funext hbin
  obtain rfl : Ws = Ws' := funext₂ hWs
  obtain rfl : Wm = Wm' := funext₂ hWm
  obtain rfl : bm = bm' := funext hbm
  obtain rfl : W1 = W1' := funext₂ hW1
  obtain rfl : b1 = b1' := funext hb1
  obtain rfl : W2 = W2' := funext hW2
  obtain rfl : A = A' := funext fun t => funext₂ (hA t)
  obtain rfl : X = X' := funext fun t => funext₂ (hX t)
  rw [hb2]

/-- The network on the whole batch, its 17 arguments as arrays: the score of row `n`. -/
def scores (a0 : (⟨3, ![2048, 32, 32]⟩ : Shape).Idx → EReal) (x0 : (⟨3, ![2048, 32, 28]⟩ : Shape).Idx → EReal)
    (a1 : (⟨3, ![2048, 32, 32]⟩ : Shape).Idx → EReal) (x1 : (⟨3, ![2048, 32, 28]⟩ : Shape).Idx → EReal)
    (a2 : (⟨3, ![2048, 32, 32]⟩ : Shape).Idx → EReal) (x2 : (⟨3, ![2048, 32, 28]⟩ : Shape).Idx → EReal)
    (a3 : (⟨3, ![2048, 32, 32]⟩ : Shape).Idx → EReal) (x3 : (⟨3, ![2048, 32, 28]⟩ : Shape).Idx → EReal)
    (win : (⟨2, ![28, 128]⟩ : Shape).Idx → EReal) (bin : (⟨1, ![128]⟩ : Shape).Idx → EReal)
    (ws wm : (⟨2, ![128, 128]⟩ : Shape).Idx → EReal) (bm : (⟨1, ![128]⟩ : Shape).Idx → EReal)
    (w1 : (⟨2, ![512, 512]⟩ : Shape).Idx → EReal) (b1 : (⟨1, ![512]⟩ : Shape).Idx → EReal)
    (w2 : (⟨2, ![512, 1]⟩ : Shape).Idx → EReal) (b2 : (⟨1, ![1]⟩ : Shape).Idx → EReal) (n : Fin 2048) : EReal :=
  score (fun f d => win (ix2 f d)) (fun d => bin (ix1 d)) (fun k d => ws (ix2 k d)) (fun k d => wm (ix2 k d))
    (fun d => bm (ix1 d)) (fun q o => w1 (ix2 q o)) (fun o => b1 (ix1 o)) (fun o => w2 (ix2 o 0)) (b2 (ix1 0))
    (fun t i j => (![a0, a1, a2, a3] t) (ix3 n i j)) (fun t i f => (![x0, x1, x2, x3] t) (ix3 n i f))

/-- A bias added before four terms or after them. -/
theorem bias_last (b x y z w : EReal) : b + x + y + z + w = x + y + z + w + b := by ac_rfl

/-- A sum over the 512 joined entries is the sum over the four molecules of their 128 entries. -/
theorem sum_joint (f : Fin 512 → EReal) : ∑ q, f q = ∑ t, ∑ k, f (joint t k) := by
  rw [← Fintype.sum_prod_type' (fun t k => f (joint t k)), ← Equiv.sum_comp (finProdFinEquiv (m := 4) (n := 128))]
  refine Finset.sum_congr rfl fun p _ => congrArg f (Fin.ext ?_)
  show p.2.val + 128 * p.1.val = 128 * p.1.val + p.2.val
  omega

end Cert.Net

end
-- ==== Proof.Block.lean ====
/- One grid point of the kernel: what its body computes from a block of 128 rows of the batch. The four molecules of a
   row are stacked as 128 atoms; row `128 * b + 32 * t + i` of the flattened state is atom `i` of molecule `t` of row `b`. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Block

open Cert.KernelIdeal Cert.KernelIdeal.Gen Idealize.ShloMosaic

variable {F : FTy → Type} [FloatOps F]

/-! ## The body's stages as array operations -/

/-- The initial states of all atoms of the block, flattened. -/
def startArr (x : Vec F S128x28x128 .f32) (w : Vec F S28x128 .f32) (b : Vec F S1x128 .f32) : FVec F S16384x128 .f32 :=
  shapeCast S16384x128
    (tanh (addf
      (matmul dot_S128x28x128_S28x128_S128x128x128_1_0_02_1_n_n none
        (shapeCast S128x28x128 x shapeCasts_S128x28x128_S128x28x128) w (constant S128x128x128 .f32 0x00000000#32))
      (broadcastTo S128x128x128
        (shapeCast S1x1x128 (shapeCast S1x128 b shapeCasts_S1x128_S1x128) shapeCasts_S1x128_S1x1x128)
        broadcasts_S1x1x128_S128x128x128)))
    shapeCasts_S128x128x128_S16384x128

/-- One molecule slot's messages: its 32 columns of the adjacency block times its 32 atoms' states. -/
def slotMsg (offA offH : Fin 3 → Nat) (hA : S128x32x128.Slices offA S128x32x32) (hH : S128x128x128.Slices offH S128x32x128)
    (a : FVec F S128x32x128 .f32) (h : FVec F S128x128x128 .f32) : FVec F S128x32x128 .f32 :=
  matmul dot_S128x32x32_S128x32x128_S128x32x128_2_1_1_2_0_0 none
    (extractStridedSlice S128x32x32 offA a hA) (extractStridedSlice S128x32x128 offH h hH)
    (constant S128x32x128 .f32 0x00000000#32)

/-- The four slots' messages joined along the atoms and flattened. -/
def msgArr (a : FVec F S128x32x128 .f32) (h : FVec F S16384x128 .f32) : FVec F S16384x128 .f32 :=
  have g : FVec F S128x128x128 .f32 := shapeCast S128x128x128 h shapeCasts_S16384x128_S128x128x128
  shapeCast S16384x128
    (concatenate S128x128x128 1
      [⟨S128x32x128, slotMsg ![0, 0, 0] ![0, 0, 0] slices_S128x32x128_o0_0_0_S128x32x32 slices_S128x128x128_o0_0_0_S128x32x128 a g⟩,
       ⟨S128x32x128, slotMsg ![0, 0, 32] ![0, 32, 0] slices_S128x32x128_o0_0_32_S128x32x32 slices_S128x128x128_o0_32_0_S128x32x128 a g⟩,
       ⟨S128x32x128, slotMsg ![0, 0, 64] ![0, 64, 0] slices_S128x32x128_o0_0_64_S128x32x32 slices_S128x128x128_o0_64_0_S128x32x128 a g⟩,
       ⟨S128x32x128, slotMsg ![0, 0, 96] ![0, 96, 0] slices_S128x32x128_o0_0_96_S128x32x32 slices_S128x128x128_o0_96_0_S128x32x128 a g⟩]
      concatenates_S128x32x128_S128x32x128_S128x32x128_S128x32x128_S128x128x128_d1)
    shapeCasts_S128x128x128_S16384x128

/-- The two matrix products of one round, added. -/
def mixArr (a : FVec F S128x32x128 .f32) (ws wm : Vec F S128x128 .f32) (h : FVec F S16384x128 .f32) : FVec F S16384x128 .f32 :=
  addf (matmul dot_S16384x128_S128x128_S16384x128_1_0_0_1_n_n none h ws (constant S16384x128 .f32 0x00000000#32))
    (matmul dot_S16384x128_S128x128_S16384x128_1_0_0_1_n_n none (msgArr a h) wm (constant S16384x128 .f32 0x00000000#32))

/-- One round over the whole block. -/
def passArr (a : FVec F S128x32x128 .f32) (ws wm : Vec F S128x128 .f32) (b : FVec F S1x128 .f32)
    (h : FVec F S16384x128 .f32) : FVec F S16384x128 .f32 :=
  tanh (addf (mixArr a ws wm h) (broadcastTo S16384x128 b broadcasts_S1x128_S16384x128))

/-- The sum over the 32 atoms of each molecule. -/
def poolArr (h : FVec F S16384x128 .f32) : FVec F S128x4x128 .f32 :=
  multiReduction .add [2] S128x4x128 (shapeCast S128x4x32x128 h shapeCasts_S16384x128_S128x4x32x128) 0x00000000#32
    reduces_S128x4x32x128_S128x4x128 (.inl rfl) rfl

/-- The body's first stretch is the initial states put through the products of the first round. -/
theorem pay4_eq (x : Vec F S128x28x128 .f32) (w : Vec F S28x128 .f32) (b : Vec F S1x128 .f32) (a : Vec F S128x32x128 .f32)
    (ws wm : Vec F S128x128 .f32) : k0_pay4 x w b a ws wm = mixArr (k0_pay2 a) ws wm (startArr x w b) := rfl

/-- The rest of the rounds and the sum over atoms. -/
theorem pay6_eq (a : FVec F S128x32x128 .f32) (ws wm : Vec F S128x128 .f32) (b : Vec F S1x128 .f32)
    (h : FVec F S16384x128 .f32) :
    k0_pay6 a ws wm (k0_pay3 b) (mixArr a ws wm h) (k0_pay5 b)
      = poolArr (passArr a ws wm (k0_pay3 b) (passArr a ws wm (k0_pay3 b) (passArr a ws wm (k0_pay3 b) h))) := rfl

/-! ## The stages read at an index -/

/-- Atom `i` of molecule `t` among the 128 stacked atoms. -/
def slot (t : Fin 4) (i : Fin 32) : Fin 128 := ⟨32 * t.val + i.val, by omega⟩

/-- The flattened row of atom `i` of molecule `t` of the block's row `b`. -/
def row (b : Fin 128) (t : Fin 4) (i : Fin 32) : Fin 16384 := ⟨128 * b.val + 32 * t.val + i.val, by omega⟩

/-- The place of row `row r t i` among the 128 stacked atoms is `slot t i`. -/
theorem row_mod (r : Fin 128) (t : Fin 4) (i : Fin 32) : (128 * r.val + 32 * t.val + i.val) % 128 = 32 * t.val + i.val := by
  omega

/-- The initial state of an atom, read off the flattened array. -/
theorem startArr_apply (x : Vec Ideal S128x28x128 .f32) (w : Vec Ideal S28x128 .f32) (b : Vec Ideal S1x128 .f32)
    (r : Fin 128) (t : Fin 4) (i : Fin 32) (d : Fin 128) :
    startArr x w b (ix2 (row r t i) d)
      = Net.start (fun f d => w (ix2 f d)) (fun d => b (ix2 0 d)) (fun i f => x (ix3 r f (slot t i))) i d := by
  unfold startArr row
  pointwise [dot_S128x28x128_S28x128_S128x128x128_1_0_02_1_n_n]
  unfold Net.start slot
  simp only [row_mod]

/-- A slot's messages at an atom: the sum over the slot's 32 atoms of adjacency times state. -/
theorem slotMsg_apply (t : Fin 4) (offA offH : Fin 3 → Nat) (eA : offA = ![0, 0, 32 * t.val]) (eH : offH = ![0, 32 * t.val, 0])
    (hA : S128x32x128.Slices offA S128x32x32) (hH : S128x128x128.Slices offH S128x32x128)
    (a : FVec Ideal S128x32x128 .f32) (h : FVec Ideal S16384x128 .f32) (r : Fin 128) (i i' : Fin 32) (hi : i'.val = i.val)
    (k : Fin 128) :
    slotMsg offA offH hA hH a (shapeCast S128x128x128 h shapeCasts_S16384x128_S128x128x128) (ix3 r i' k)
      = ∑ j, a (ix3 r i (slot t j)) * h (ix2 (row r t j) k) := by
  obtain rfl : i' = i := Fin.ext hi
  subst eA eH
  unfold slotMsg row
  pointwise [dot_S128x32x32_S128x32x128_S128x32x128_2_1_1_2_0_0]
  unfold slot
  refine Finset.sum_congr rfl fun j _ => congrArg (_ * ·) (congrArg (fun n => h (ix2 n k)) (Fin.ext ?_))
  dsimp only
  omega

/-- The joined messages at a row: only the atoms of the row's own molecule contribute. -/
theorem msgArr_apply (a : FVec Ideal S128x32x128 .f32) (h : FVec Ideal S16384x128 .f32)
    (r : Fin 128) (t : Fin 4) (i : Fin 32) (k : Fin 128) :
    msgArr a h (ix2 (row r t i) k) = ∑ j, a (ix3 r i (slot t j)) * h (ix2 (row r t j) k) := by
  have hm := row_mod r t i
  unfold msgArr
  conv_lhs => unfold row
  pointwise
  have hi := i.isLt
  rcases (by omega : t.val = 0 ∨ t.val = 1 ∨ t.val = 2 ∨ t.val = 3) with e | e | e | e <;> rw [e] at hm
  · rw [dif_pos (by omega)]
    exact slotMsg_apply t _ _ (by rw [e]) (by rw [e]) _ _ a h r i _ (by dsimp only; omega) k
  · rw [dif_neg (by omega), dif_pos (by omega)]
    exact slotMsg_apply t _ _ (by rw [e]) (by rw [e]) _ _ a h r i _ (by dsimp only; omega) k
  · rw [dif_neg (by omega), dif_neg (by omega), dif_pos (by omega)]
    exact slotMsg_apply t _ _ (by rw [e]) (by rw [e]) _ _ a h r i _ (by dsimp only; omega) k
  · rw [dif_neg (by omega), dif_neg (by omega), dif_neg (by omega)]
    exact slotMsg_apply t _ _ (by rw [e]) (by rw [e]) _ _ a h r i _ (by dsimp only; omega) k

/-- One round at a row, when the states of the row's molecule are known to be `g`. -/
theorem passArr_apply (a : FVec Ideal S128x32x128 .f32) (ws wm : Vec Ideal S128x128 .f32) (b : FVec Ideal S1x128 .f32)
    (h : FVec Ideal S16384x128 .f32) (r : Fin 128) (t : Fin 4) (g : Fin 32 → Fin 128 → EReal)
    (hg : ∀ i d, h (ix2 (row r t i) d) = g i d) (i : Fin 32) (d : Fin 128) :
    passArr a ws wm b h (ix2 (row r t i) d)
      = Net.pass (fun k d => ws (ix2 k d)) (fun k d => wm (ix2 k d)) (fun d => b (ix2 0 d))
          (fun i j => a (ix3 r i (slot t j))) g i d := by
  unfold passArr mixArr
  pointwise [dot_S16384x128_S128x128_S16384x128_1_0_0_1_n_n]
  unfold Net.pass
  simp only [msgArr_apply, hg]

/-- The sum over a molecule's atoms, read off the flattened states. -/
theorem poolArr_apply (h : FVec Ideal S16384x128 .f32) (r : Fin 128) (t : Fin 4) (d : Fin 128) :
    poolArr h (ix3 r t d) = ∑ i, h (ix2 (row r t i) d) := by
  unfold poolArr row
  pointwise
  refine Finset.sum_congr rfl fun i _ => congrArg (fun n => h (ix2 n d)) (Fin.ext ?_)
  dsimp only
  omega

/-- The body's rounds and sum give each molecule's embedding. -/
theorem pool_embedding (x : Vec Ideal S128x28x128 .f32) (w : Vec Ideal S28x128 .f32) (bi : Vec Ideal S1x128 .f32)
    (a : FVec Ideal S128x32x128 .f32) (ws wm : Vec Ideal S128x128 .f32) (b : FVec Ideal S1x128 .f32)
    (r : Fin 128) (t : Fin 4) (d : Fin 128) :
    poolArr (passArr a ws wm b (passArr a ws wm b (passArr a ws wm b (startArr x w bi)))) (ix3 r t d)
      = Net.embedding (fun f d => w (ix2 f d)) (fun d => bi (ix2 0 d)) (fun k d => ws (ix2 k d)) (fun k d => wm (ix2 k d))
          (fun d => b (ix2 0 d)) (fun i j => a (ix3 r i (slot t j))) (fun i f => x (ix3 r f (slot t i))) d := by
  rw [poolArr_apply]
  exact Finset.sum_congr rfl fun i _ =>
    passArr_apply _ _ _ _ _ r t _ (passArr_apply _ _ _ _ _ r t _ (passArr_apply _ _ _ _ _ r t _ (startArr_apply x w bi r t))) i d

/-- The head's arrays: one output per row from the four embeddings, the first layer's weights in four row blocks. -/
theorem pay1_apply (e : FVec Ideal S128x4x128 .f32) (b1 : Vec Ideal S1x512 .f32) (w0 w1 w2 w3 : Vec Ideal S128x512 .f32)
    (W2 : Vec Ideal S512x1 .f32) (b2 : Vec Ideal S1x1 .f32) (W1 : Vec Ideal S512x512 .f32)
    (hw : ∀ (t : Fin 4) (k : Fin 128) (o : Fin 512), (![w0, w1, w2, w3] t) (ix2 k o) = W1 (ix2 (Net.joint t k) o))
    (r : Fin 128) :
    k0_pay1 e b1 w0 w1 w2 w3 W2 b2 (ix2 r 0)
      = Net.head (fun q o => W1 (ix2 q o)) (fun o => b1 (ix2 0 o)) (fun o => W2 (ix2 o 0)) (b2 (ix2 0 0))
          (fun t k => e (ix3 r t k)) := by
  unfold k0_pay1
  pointwise [dot_S128x128_S128x512_S128x512_1_0_0_1_n_n, dot_S128x512_S512x1_S128x1_1_0_0_1_n_n]
  unfold Net.head
  simp only [Fin.sum_univ_four, ← hw]
  refine congrArg (fun y : EReal => max y (-y)) (congrArg (· + b2 (ix2 0 0)) (Finset.sum_congr rfl fun o _ => ?_))
  exact congrArg (fun y : EReal => max y 0 * W2 (ix2 o 0)) (Net.bias_last _ _ _ _ _)

/-! ## The block the body leaves -/

/-- The offsets of a rank two whole block are zero; -/
theorem off2 : (![0, 0] : Fin 2 → Nat) = fun _ => 0 := funext fun a => by fin_cases a <;> rfl
/-- so are those of a rank three one. -/
theorem off3 : (![0, 0, 0] : Fin 3 → Nat) = fun _ => 0 := funext fun a => by fin_cases a <;> rfl

/-- The four row blocks the body loads of the first layer's weights are the rows of the four molecules. -/
theorem W1_rows (W1 : Vec Ideal S512x512 .f32) (t : Fin 4) (k : Fin 128) (o : Fin 512) :
    (![View.ld W1 r0_6, View.ld W1 r0_7, View.ld W1 r0_8, View.ld W1 r0_9] t) (ix2 k o) = W1 (ix2 (Net.joint t k) o) := by
  unfold Net.joint
  fin_cases t <;> pointwise [r0_6, r0_7, r0_8, r0_9]

/-- What a grid point writes for its row `r`: the network's score of that row, read off the point's blocks. -/
theorem out_apply (x0 : Vec Ideal S128x32x128 .f32) (x1 : Vec Ideal S128x28x128 .f32) (x2 : Vec Ideal S28x128 .f32)
    (x3 : Vec Ideal S1x128 .f32) (x4 x5 : Vec Ideal S128x128 .f32) (x6 : Vec Ideal S1x128 .f32)
    (x7 : Vec Ideal S512x512 .f32) (x8 : Vec Ideal S1x512 .f32) (x9 : Vec Ideal S512x1 .f32) (x10 : Vec Ideal S1x1 .f32)
    (r : Fin 128) :
    out0_11 x0 x1 x2 x3 x4 x5 x6 x7 x8 x9 x10 (ix2 r 0)
      = Net.score (fun f d => x2 (ix2 f d)) (fun d => x3 (ix2 0 d)) (fun k d => x4 (ix2 k d)) (fun k d => x5 (ix2 k d))
          (fun d => x6 (ix2 0 d)) (fun q o => x7 (ix2 q o)) (fun o => x8 (ix2 0 o)) (fun o => x9 (ix2 o 0)) (x10 (ix2 0 0))
          (fun t i j => x0 (ix3 r i (slot t j))) (fun t i f => x1 (ix3 r f (slot t i))) := by
  unfold out0_11
  rw [View.canon_unit_zero off2, pay1_apply _ _ _ _ _ _ _ _ x7 (W1_rows x7), pay4_eq, pay6_eq]
  simp only [pool_embedding]
  have e2 : k0_pay2 (View.ld x0 r0_3) = x0 := by
    rw [View.ld_unit_zero off3]; exact shapeCast_self _ _
  have e3 : k0_pay3 (View.ld x6 r0_2) = x6 := by
    rw [View.ld_unit_zero off2]; exact shapeCast_self _ _
  rw [e2, e3]
  rw [View.ld_unit_zero (S := S128x28x128) off3, View.ld_unit_zero (S := S28x128) off2,
    View.ld_unit_zero (S := S1x128) off2, View.ld_unit_zero (S := S128x128) off2, View.ld_unit_zero (S := S128x128) off2,
    View.ld_unit_zero (S := S1x512) off2, View.ld_unit_zero (S := S512x1) off2, View.ld_unit_zero (S := S1x1) off2]
  rfl

end Cert.KernelIdeal.Block

end
-- ==== Proof.Whole.lean ====
/- The kernel's result array after the run: the network's score of every row of the batch. -/
module

public import proofs.«01_k».proof.Proof.Block
public import Idealize.ShloMosaic.Lib.Pipeline.ValueKit.Point

@[expose] public section

set_option maxRecDepth 16384

noncomputable section

namespace Cert.KernelIdeal.Whole

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays the kernel is called on -/

/-- The adjacency operand: the four molecules' adjacency arrays joined along the columns. -/
theorem V_adj (c : Dev nD) : (V m c main_v0 : S2048x32x128.Idx → EReal)
    = concatenate S2048x32x128 2 [⟨S2048x32x32, m ((c : Thread nD τ).loc main_arg0)⟩, ⟨S2048x32x32, m ((c : Thread nD τ).loc main_arg2)⟩,
        ⟨S2048x32x32, m ((c : Thread nD τ).loc main_arg4)⟩, ⟨S2048x32x32, m ((c : Thread nD τ).loc main_arg6)⟩]
        concatenates_S2048x32x32_S2048x32x32_S2048x32x32_S2048x32x32_S2048x32x128_d2 := by
  simp only [V, V0, hostOps0, List.flatten_cons, List.flatten_nil, List.append_nil]
  after_results
  rfl

/-- One molecule's features with atoms and features exchanged. -/
abbrev flip (x : Vec Ideal S2048x32x28 .f32) : Vec Ideal S2048x28x32 .f32 :=
  transpose S2048x28x32 [0, 2, 1] x transposes_S2048x32x28_S2048x28x32_0_2_1

/-- The feature operand: the four molecules' exchanged feature arrays joined along the atoms. -/
theorem V_feat (c : Dev nD) : (V m c main_v5 : S2048x28x128.Idx → EReal)
    = concatenate S2048x28x128 2 [⟨S2048x28x32, flip (m ((c : Thread nD τ).loc main_arg1))⟩, ⟨S2048x28x32, flip (m ((c : Thread nD τ).loc main_arg3))⟩,
        ⟨S2048x28x32, flip (m ((c : Thread nD τ).loc main_arg5))⟩, ⟨S2048x28x32, flip (m ((c : Thread nD τ).loc main_arg7))⟩]
        concatenates_S2048x28x32_S2048x28x32_S2048x28x32_S2048x28x32_S2048x28x128_d2 := by
  simp only [V, V0, hostOps0, List.flatten_cons, List.flatten_nil, List.append_nil]
  after_results
  rfl

/-- The first bias operand. -/
theorem V_bin (c : Dev nD) (d : Fin 128) :
    (V m c main_v6 : S1x128.Idx → EReal) (ix2 0 d) = (m ((c : Thread nD τ).loc main_arg9) : S128.Idx → EReal) (ix1 d) := by
  have e : (V m c main_v6 : S1x128.Idx → EReal) = shapeCast S1x128 (m ((c : Thread nD τ).loc main_arg9)) shapeCasts_S128_S1x128 := by
    simp only [V, V0, hostOps0, List.flatten_cons, List.flatten_nil, List.append_nil]
    after_results
    rfl
  rw [e]
  pointwise

/-- The rounds' bias operand. -/
theorem V_bm (c : Dev nD) (d : Fin 128) :
    (V m c main_v7 : S1x128.Idx → EReal) (ix2 0 d) = (m ((c : Thread nD τ).loc main_arg12) : S128.Idx → EReal) (ix1 d) := by
  have e : (V m c main_v7 : S1x128.Idx → EReal) = shapeCast S1x128 (m ((c : Thread nD τ).loc main_arg12)) shapeCasts_S128_S1x128 := by
    simp only [V, V0, hostOps0, List.flatten_cons, List.flatten_nil, List.append_nil]
    after_results
    rfl
  rw [e]
  pointwise

/-- The hidden layer's bias operand. -/
theorem V_b1 (c : Dev nD) (d : Fin 512) :
    (V m c main_v8 : S1x512.Idx → EReal) (ix2 0 d) = (m ((c : Thread nD τ).loc main_arg14) : S512.Idx → EReal) (ix1 d) := by
  have e : (V m c main_v8 : S1x512.Idx → EReal) = shapeCast S1x512 (m ((c : Thread nD τ).loc main_arg14)) shapeCasts_S512_S1x512 := by
    simp only [V, V0, hostOps0, List.flatten_cons, List.flatten_nil, List.append_nil]
    after_results
    rfl
  rw [e]
  pointwise

/-- The output's bias operand. -/
theorem V_b2 (c : Dev nD) :
    (V m c main_v9 : S1x1.Idx → EReal) (ix2 0 0) = (m ((c : Thread nD τ).loc main_arg16) : S1.Idx → EReal) (ix1 0) := by
  have e : (V m c main_v9 : S1x1.Idx → EReal) = shapeCast S1x1 (m ((c : Thread nD τ).loc main_arg16)) shapeCasts_S1_S1x1 := by
    simp only [V, V0, hostOps0, List.flatten_cons, List.flatten_nil, List.append_nil]
    after_results
    rfl
  rw [e]
  pointwise

/-- Four arrays joined along their last axis of 32, read at molecule `t`'s place `j`. -/
theorem join_apply (n1 : Nat) (u0 u1 u2 u3 : (⟨3, ![2048, n1, 32]⟩ : Shape).Idx → EReal)
    (h : Shape.Concatenates [⟨3, ![2048, n1, 32]⟩, ⟨3, ![2048, n1, 32]⟩, ⟨3, ![2048, n1, 32]⟩, ⟨3, ![2048, n1, 32]⟩]
      ⟨3, ![2048, n1, 128]⟩ 2) (n : Fin 2048) (a : Fin n1) (t : Fin 4) (j : Fin 32) :
    concatenate ⟨3, ![2048, n1, 128]⟩ 2 [⟨⟨3, ![2048, n1, 32]⟩, u0⟩, ⟨⟨3, ![2048, n1, 32]⟩, u1⟩, ⟨⟨3, ![2048, n1, 32]⟩, u2⟩,
        ⟨⟨3, ![2048, n1, 32]⟩, u3⟩] h (ix3 n a (slot t j))
      = (![u0, u1, u2, u3] t) (ix3 n a j) := by
  unfold slot
  have hj := j.isLt
  pointwise
  have piece (u : (⟨3, ![2048, n1, 32]⟩ : Shape).Idx → EReal) (x : (⟨3, ![2048, n1, 32]⟩ : Shape).Idx)
      (h0 : (x 0).val = n.val) (h1 : (x 1).val = a.val) (h2 : (x 2).val = j.val) : u x = u (ix3 n a j) :=
    congrArg u (funext fun b => match b with | ⟨0, _⟩ => Fin.ext h0 | ⟨1, _⟩ => Fin.ext h1 | ⟨2, _⟩ => Fin.ext h2)
  rcases (by omega : t.val = 0 ∨ t.val = 1 ∨ t.val = 2 ∨ t.val = 3) with e | e | e | e
  · rw [dif_pos (by omega)]
    obtain rfl : t = 0 := Fin.ext e
    exact piece u0 _ rfl rfl (by show 32 * (0 : Fin 4).val + j.val = j.val; omega)
  · rw [dif_neg (by omega), dif_pos (by omega)]
    obtain rfl : t = 1 := Fin.ext e
    exact piece u1 _ rfl rfl (by show 32 * (1 : Fin 4).val + j.val - 32 = j.val; omega)
  · rw [dif_neg (by omega), dif_neg (by omega), dif_pos (by omega)]
    obtain rfl : t = 2 := Fin.ext e
    exact piece u2 _ rfl rfl (by show 32 * (2 : Fin 4).val + j.val - 32 - 32 = j.val; omega)
  · rw [dif_neg (by omega), dif_neg (by omega), dif_neg (by omega)]
    obtain rfl : t = 3 := Fin.ext e
    exact piece u3 _ rfl rfl (by show 32 * (3 : Fin 4).val + j.val - 32 - 32 - 32 = j.val; omega)

/-- The adjacency operand read at molecule `t`'s column `j`. -/
theorem adj_apply (c : Dev nD) (n : Fin 2048) (t : Fin 4) (i j : Fin 32) :
    (V m c main_v0 : S2048x32x128.Idx → EReal) (ix3 n i (slot t j))
      = (![m ((c : Thread nD τ).loc main_arg0), m ((c : Thread nD τ).loc main_arg2), m ((c : Thread nD τ).loc main_arg4),
          m ((c : Thread nD τ).loc main_arg6)] t : S2048x32x32.Idx → EReal) (ix3 n i j) := by
  rw [V_adj]
  exact join_apply 32 _ _ _ _ _ n i t j

/-- The feature operand read at molecule `t`'s atom `i`. -/
theorem feat_apply (c : Dev nD) (n : Fin 2048) (t : Fin 4) (i : Fin 32) (f : Fin 28) :
    (V m c main_v5 : S2048x28x128.Idx → EReal) (ix3 n f (slot t i))
      = (![m ((c : Thread nD τ).loc main_arg1), m ((c : Thread nD τ).loc main_arg3), m ((c : Thread nD τ).loc main_arg5),
          m ((c : Thread nD τ).loc main_arg7)] t : S2048x32x28.Idx → EReal) (ix3 n i f) := by
  have hf (x : Vec Ideal S2048x32x28 .f32) : flip x (ix3 n f i) = x (ix3 n i f) := by unfold flip; pointwise
  rw [V_feat]
  refine (join_apply 28 _ _ _ _ _ n f t i).trans ?_
  fin_cases t <;> exact hf _

/-- The result array: row `i 0`'s score. -/
abbrev result (c : Dev nD) : S2048x1.Idx → EReal := fun i =>
  Net.scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (i 0)

/-- The batch windows' blocks move down the batch with the grid point; -/
theorem idx (t : Fin cfg0.N) : win0_11.index t = ![t.val, 0] ∧ win0_0.index t = ![t.val, 0, 0] ∧ win0_1.index t = ![t.val, 0, 0] :=
  (by decide +kernel : ∀ t : Fin grid0.N, win0_11.index t = ![t.val, 0] ∧ win0_0.index t = ![t.val, 0, 0] ∧ win0_1.index t = ![t.val, 0, 0]) t

/-- the parameters' windows stay on their one block, the whole array. -/
theorem idxP (t : Fin cfg0.N) :
    win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]) t

/-- Each parameter's block is the parameter. -/
theorem params (c : Dev nD) (t : Fin cfg0.N) :
    (iblk m c 2 t : S28x128.Idx → EReal) = V m c main_arg8
      ∧ (iblk m c 3 t : S1x128.Idx → EReal) = V m c main_v6
      ∧ (iblk m c 4 t : S128x128.Idx → EReal) = V m c main_arg10
      ∧ (iblk m c 5 t : S128x128.Idx → EReal) = V m c main_arg11
      ∧ (iblk m c 6 t : S1x128.Idx → EReal) = V m c main_v7
      ∧ (iblk m c 7 t : S512x512.Idx → EReal) = V m c main_arg13
      ∧ (iblk m c 8 t : S1x512.Idx → EReal) = V m c main_v8
      ∧ (iblk m c 9 t : S512x1.Idx → EReal) = V m c main_arg15
      ∧ (iblk m c 10 t : S1x1.Idx → EReal) = V m c main_v9 := by
  obtain ⟨e2, e3, e4, e5, e6, e7, e8, e9, e10⟩ := idxP t
  refine ⟨?_, ?_, ?_, ?_, ?_, ?_, ?_, ?_, ?_⟩ <;> funext y
  · blk_ext! [iblk, e2]
  · blk_ext! [iblk, e3]
  · blk_ext! [iblk, e4]
  · blk_ext! [iblk, e5]
  · blk_ext! [iblk, e6]
  · blk_ext! [iblk, e7]
  · blk_ext! [iblk, e8]
  · blk_ext! [iblk, e9]
  · blk_ext! [iblk, e10]

/-- After the run the result array holds the scores. -/
theorem final (c : Dev nD) : (dats m 0 c).arrAt 11 cfg0.N = result m c := by
  refine (dats m 0 c).arrAt_eq_of_covers 11 _ (by decide +kernel) fun t hf y => ?_
  blk_simp
  rw [after0_11]
  obtain ⟨r, rfl⟩ : ∃ r : Fin 128, y = (ix2 r 0 : S128x1.Idx) :=
    ⟨y 0, funext fun a => match a with | ⟨0, _⟩ => rfl | ⟨1, _⟩ => Fin.ext (Nat.lt_one_iff.mp (y 1).isLt)⟩
  rw [out_apply]
  have ht : t.val < 16 := t.isLt
  have hr := r.isLt
  obtain ⟨n, hn⟩ : ∃ n : Fin 2048, n.val = t.val * 128 + r.val := ⟨⟨t.val * 128 + r.val, by omega⟩, rfl⟩
  have e : ((win0_11.blk t).view.emb (ix2 r 0 : S128x1.Idx)) 0 = n := by
    apply Fin.ext
    blk_simp [(idx t).1]
    exact hn.symm
  have hA : ∀ (s : Fin 4) (i j : Fin 32), (iblk m c 0 t : S128x32x128.Idx → EReal) (ix3 r i (slot s j))
      = (V m c main_v0 : S2048x32x128.Idx → EReal) (ix3 n i (slot s j)) := by
    intro s i j
    blk_ext! [iblk, (idx t).2.1]
  have hX : ∀ (s : Fin 4) (i : Fin 32) (f : Fin 28), (iblk m c 1 t : S128x28x128.Idx → EReal) (ix3 r f (slot s i))
      = (V m c main_v5 : S2048x28x128.Idx → EReal) (ix3 n f (slot s i)) := by
    intro s i f
    blk_ext! [iblk, (idx t).2.2]
  obtain ⟨p2, p3, p4, p5, p6, p7, p8, p9, p10⟩ := params m c t
  show _ = Net.scores _ _ _ _ _ _ _ _ _ _ _ _ _ _ _ _ _ (((win0_11.blk t).view.emb (ix2 r 0 : S128x1.Idx)) 0)
  rw [e]
  exact Net.score_congr (fun _ _ => congrFun (p2.trans (V_main_arg8 m c)) _)
    (fun d => (congrFun p3 _).trans (V_bin m c d))
    (fun _ _ => congrFun (p4.trans (V_main_arg10 m c)) _) (fun _ _ => congrFun (p5.trans (V_main_arg11 m c)) _)
    (fun d => (congrFun p6 _).trans (V_bm m c d)) (fun _ _ => congrFun (p7.trans (V_main_arg13 m c)) _)
    (fun o => (congrFun p8 _).trans (V_b1 m c o)) (fun _ => congrFun (p9.trans (V_main_arg15 m c)) _)
    ((congrFun p10 _).trans (V_b2 m c)) (fun s i j => (hA s i j).trans (adj_apply m c n s i j))
    (fun s i f => (hX s i f).trans (feat_apply m c n s i f))

/-! ## The run -/

/-- The value returned: the scores as a vector. -/
abbrev value (c : Dev nD) : S2048.Idx → EReal := fun i => result m c (ix2 (i 0) 0)

/-- The line after the call reshapes the result array to a vector. -/
theorem tail (c : Dev nD) : Pipeline.afterTail₀ cfgs (dats m) 0 (V0 m) [hostOps1] c main_v11 = value m c := by
  unfold Pipeline.afterTail₀
  simp only [hostOps1, List.flatten_cons, List.flatten_nil, List.append_nil]
  after_results
  have hv := Pipeline.withArrays_arr (cfgs 0).spec launch0.win.arr_inj c (V0 m c) (fun w => (dats m 0 c).arrAt w (cfgs 0).N) 11
  refine Eq.trans (b := shapeCast S2048 (result m c) shapeCasts_S2048x1_S2048)
    (congrArg (fun x : S2048x1.Idx → EReal => shapeCast S2048 x shapeCasts_S2048x1_S2048) (hv.trans (final m c))) ?_
  funext i
  obtain ⟨n, rfl⟩ : ∃ n : Fin 2048, i = (ix1 n : S2048.Idx) := ⟨i 0, funext fun a => match a with | ⟨0, _⟩ => rfl⟩
  show shapeCast S2048 (result m c) shapeCasts_S2048x1_S2048 (ix1 n) = result m c (ix2 n 0)
  generalize result m c = y
  pointwise

/-- The run: the value returned is the scores. -/
theorem run : θ_run defs (onTc (τ := τ) (main (F := Ideal))) ⟨m, fun _ => 0, ρ⟩ fun r => ∀ c : Dev nD,
      r.2.mem ((c : Thread nD τ).loc main_v11) = value m c :=
  (θ_run defs _ _).mono (fun _ h c =>
    ((h c).2 main_v11 (Pipeline.mem_restRefs_of main_v11 (by decide) (by decide))).trans (tail m c)) (run_main m ρ)

end Cert.KernelIdeal.Whole

end
-- ==== Proof.Ref.lean ====
/- The reference's result: the network's score of every row of the batch. The reference embeds the four molecules by the
   same operations, so one molecule's operations are named once and read once. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Net

open Cert Cert.ReferenceIdeal Cert.ReferenceIdeal.Gen Cert.ReferenceIdeal.Value Idealize.ShloMosaic Idealize.ShloMosaic.TcCoe

/-! ## The reference's stages as array operations -/

/-- A bias spread over rows and atoms. -/
def biasArr (b : FVec Ideal S128 .f32) : FVec Ideal S2048x32x128 .f32 :=
  broadcastInDim S2048x32x128 ![0, 1, 2] bcast_S1x1x128_S2048x32x128_0_1_2 (broadcastInDim S1x1x128 ![2] bcast_S128_S1x1x128_2 b)

/-- The atoms' initial states. -/
def startArr (x : FVec Ideal S2048x32x28 .f32) (w : FVec Ideal S28x128 .f32) (b : FVec Ideal S128 .f32) :
    FVec Ideal S2048x32x128 .f32 :=
  Host.tanh (addf (Host.dotGeneral dot_S2048x32x28_S28x128_S2048x32x128_2_0_01_1_n_n none x w) (biasArr b))

/-- One round of message passing. -/
def passArr (a : FVec Ideal S2048x32x32 .f32) (ws wm : FVec Ideal S128x128 .f32) (b : FVec Ideal S128 .f32)
    (h : FVec Ideal S2048x32x128 .f32) : FVec Ideal S2048x32x128 .f32 :=
  Host.tanh (addf (addf (Host.dotGeneral dot_S2048x32x128_S128x128_S2048x32x128_2_0_01_1_n_n none h ws)
    (Host.dotGeneral dot_S2048x32x128_S128x128_S2048x32x128_2_0_01_1_n_n none
      (Host.dotGeneral dot_S2048x32x32_S2048x32x128_S2048x32x128_2_1_1_2_0_0 none a h) wm)) (biasArr b))

/-- The sum over the atoms. -/
def poolArr (h : FVec Ideal S2048x32x128 .f32) : FVec Ideal S2048x128 .f32 :=
  Host.reduceAdd h (constant S_ .f32 0x00000000#32) reducesTo_S2048x32x128_S2048x128_d1 h_S_

/-- One molecule's embedding, in every row of the batch. -/
def embArr (w : FVec Ideal S28x128 .f32) (b : FVec Ideal S128 .f32) (ws wm : FVec Ideal S128x128 .f32)
    (bm : FVec Ideal S128 .f32) (a : FVec Ideal S2048x32x32 .f32) (x : FVec Ideal S2048x32x28 .f32) :
    FVec Ideal S2048x128 .f32 :=
  poolArr (passArr a ws wm bm (passArr a ws wm bm (passArr a ws wm bm (startArr x w b))))

/-- Four embeddings joined. -/
def joinArr (e0 e1 e2 e3 : FVec Ideal S2048x128 .f32) : FVec Ideal S2048x512 .f32 :=
  concatenate S2048x512 1 [⟨S2048x128, e0⟩, ⟨S2048x128, e1⟩, ⟨S2048x128, e2⟩, ⟨S2048x128, e3⟩]
    concatenates_S2048x128_S2048x128_S2048x128_S2048x128_S2048x512_d1

/-- The hidden layer of the head. -/
def hiddenArr (e : FVec Ideal S2048x512 .f32) (w1 : FVec Ideal S512x512 .f32) (b1 : FVec Ideal S512 .f32) :
    FVec Ideal S2048x512 .f32 :=
  maximumf (addf (Host.dotGeneral dot_S2048x512_S512x512_S2048x512_1_0_0_1_n_n none e w1)
      (broadcastInDim S2048x512 ![0, 1] bcast_S1x512_S2048x512_0_1 (broadcastInDim S1x512 ![1] bcast_S512_S1x512_1 b1)))
    (broadcastInDim S2048x512 ![] bcast_S_S2048x512 (constant S_ .f32 0x00000000#32))

/-- The output of the head. -/
def outArr (h : FVec Ideal S2048x512 .f32) (w2 : FVec Ideal S512x1 .f32) (b2 : FVec Ideal S1 .f32) : FVec Ideal S2048 .f32 :=
  shapeCast S2048
    (Host.absf (addf (Host.dotGeneral dot_S2048x512_S512x1_S2048x1_1_0_0_1_n_n none h w2)
      (broadcastInDim S2048x1 ![0, 1] bcast_S1x1_S2048x1_0_1 (broadcastInDim S1x1 ![1] bcast_S1_S1x1_1 b2))))
    shapeCasts_S2048x1_S2048

/-! ## The stages read at an index -/

/-- The initial states are the network's, in every row `n`. -/
theorem startArr_apply (x : FVec Ideal S2048x32x28 .f32) (w : FVec Ideal S28x128 .f32) (b : FVec Ideal S128 .f32)
    (n : Fin 2048) (i : Fin 32) (d : Fin 128) :
    startArr x w b (ix3 n i d)
      = Cert.Net.start (fun f d => w (ix2 f d)) (fun d => b (ix1 d)) (fun i f => x (ix3 n i f)) i d := by
  unfold startArr biasArr Cert.Net.start
  pointwise [dot_S2048x32x28_S28x128_S2048x32x128_2_0_01_1_n_n]

/-- One round is the network's round on row `n`. -/
theorem passArr_apply (a : FVec Ideal S2048x32x32 .f32) (ws wm : FVec Ideal S128x128 .f32) (b : FVec Ideal S128 .f32)
    (h : FVec Ideal S2048x32x128 .f32) (n : Fin 2048) (i : Fin 32) (d : Fin 128) :
    passArr a ws wm b h (ix3 n i d)
      = Cert.Net.pass (fun k d => ws (ix2 k d)) (fun k d => wm (ix2 k d)) (fun d => b (ix1 d)) (fun i j => a (ix3 n i j))
          (fun i d => h (ix3 n i d)) i d := by
  unfold passArr biasArr Cert.Net.pass
  pointwise [dot_S2048x32x128_S128x128_S2048x32x128_2_0_01_1_n_n, dot_S2048x32x32_S2048x32x128_S2048x32x128_2_1_1_2_0_0]

/-- The sum over the atoms at row `n`, entry `d`. -/
theorem poolArr_apply (h : FVec Ideal S2048x32x128 .f32) (n : Fin 2048) (d : Fin 128) :
    poolArr h (ix2 n d) = ∑ i : Fin 32, h (ix3 n i d) := by
  unfold poolArr
  pointwise

/-- One molecule's embedding is the network's. -/
theorem embArr_apply (w : FVec Ideal S28x128 .f32) (b : FVec Ideal S128 .f32) (ws wm : FVec Ideal S128x128 .f32)
    (bm : FVec Ideal S128 .f32) (a : FVec Ideal S2048x32x32 .f32) (x : FVec Ideal S2048x32x28 .f32)
    (n : Fin 2048) (d : Fin 128) :
    embArr w b ws wm bm a x (ix2 n d)
      = Cert.Net.embedding (fun f d => w (ix2 f d)) (fun d => b (ix1 d)) (fun k d => ws (ix2 k d)) (fun k d => wm (ix2 k d))
          (fun d => bm (ix1 d)) (fun i j => a (ix3 n i j)) (fun i f => x (ix3 n i f)) d := by
  unfold embArr Cert.Net.embedding
  simp only [poolArr_apply, passArr_apply, startArr_apply]

/-- The joined embeddings read at molecule `t`'s entry `k`. -/
theorem joinArr_apply (e0 e1 e2 e3 : FVec Ideal S2048x128 .f32) (n : Fin 2048) (t : Fin 4) (k : Fin 128) :
    joinArr e0 e1 e2 e3 (ix2 n (Cert.Net.joint t k)) = (![e0, e1, e2, e3] t) (ix2 n k) := by
  have hk := k.isLt
  unfold joinArr Cert.Net.joint
  fin_cases t
  · pointwise
  · pointwise
  · pointwise
    rw [dif_neg (by omega), dif_neg (by omega), dif_pos (by omega)]
    exact congrArg (fun q => e2 (ix2 n q)) (Fin.ext (by show 256 + k.val - 128 - 128 = k.val; omega))
  · pointwise
    rw [dif_neg (by omega), dif_neg (by omega), dif_neg (by omega)]
    exact congrArg (fun q => e3 (ix2 n q)) (Fin.ext (by show 384 + k.val - 128 - 128 - 128 = k.val; omega))

/-- The hidden layer at row `n`, unit `o`: the rectified linear map of the 512 joined entries. -/
theorem hiddenArr_apply (e : FVec Ideal S2048x512 .f32) (w1 : FVec Ideal S512x512 .f32) (b1 : FVec Ideal S512 .f32)
    (n : Fin 2048) (o : Fin 512) :
    hiddenArr e w1 b1 (ix2 n o) = max ((∑ q, e (ix2 n q) * w1 (ix2 q o)) + b1 (ix1 o)) (0 : EReal) := by
  unfold hiddenArr
  pointwise [dot_S2048x512_S512x512_S2048x512_1_0_0_1_n_n]

/-- The output at row `n`: the absolute value of the linear output. -/
theorem outArr_apply (h : FVec Ideal S2048x512 .f32) (w2 : FVec Ideal S512x1 .f32) (b2 : FVec Ideal S1 .f32) (n : Fin 2048) :
    outArr h w2 b2 (ix1 n)
      = max ((∑ o, h (ix2 n o) * w2 (ix2 o 0)) + b2 (ix1 0) : EReal) (-((∑ o, h (ix2 n o) * w2 (ix2 o 0)) + b2 (ix1 0))) := by
  unfold outArr
  pointwise [dot_S2048x512_S512x1_S2048x1_1_0_0_1_n_n]
  rfl

/-! ## The result -/

variable (m : (ℓ : Loc nD τ sig) → Buf (Elt Ideal) ℓ) (c : Dev nD)

/-- One argument's value at the start. -/
abbrev arg (r : Ref sig .tc) : r.ty.Contents (Elt Ideal) := m ((c.tc : Thread nD τ).loc r)

/-- The reference's result is its stages one after the other. -/
theorem res_eq : (res_main_v131 m c : S2048.Idx → EReal)
    = outArr (hiddenArr (joinArr
          (embArr (arg m c main_arg8) (arg m c main_arg9) (arg m c main_arg10) (arg m c main_arg11) (arg m c main_arg12) (arg m c main_arg0) (arg m c main_arg1))
          (embArr (arg m c main_arg8) (arg m c main_arg9) (arg m c main_arg10) (arg m c main_arg11) (arg m c main_arg12) (arg m c main_arg2) (arg m c main_arg3))
          (embArr (arg m c main_arg8) (arg m c main_arg9) (arg m c main_arg10) (arg m c main_arg11) (arg m c main_arg12) (arg m c main_arg4) (arg m c main_arg5))
          (embArr (arg m c main_arg8) (arg m c main_arg9) (arg m c main_arg10) (arg m c main_arg11) (arg m c main_arg12) (arg m c main_arg6) (arg m c main_arg7)))
        (arg m c main_arg13) (arg m c main_arg14)) (arg m c main_arg15) (arg m c main_arg16) := by
  unfold res_main_v131
  rfl

/-- The reference's result at row `n` is the network's score of that row. -/
theorem res_apply (n : Fin 2048) : (res_main_v131 m c : S2048.Idx → EReal) (ix1 n)
    = Cert.Net.scores (arg m c main_arg0) (arg m c main_arg1) (arg m c main_arg2) (arg m c main_arg3) (arg m c main_arg4)
        (arg m c main_arg5) (arg m c main_arg6) (arg m c main_arg7) (arg m c main_arg8) (arg m c main_arg9) (arg m c main_arg10)
        (arg m c main_arg11) (arg m c main_arg12) (arg m c main_arg13) (arg m c main_arg14) (arg m c main_arg15)
        (arg m c main_arg16) n := by
  rw [res_eq]
  unfold Cert.Net.scores Cert.Net.score Cert.Net.head
  simp only [outArr_apply, hiddenArr_apply, Cert.Net.sum_joint, joinArr_apply]
  have e (t : Fin 4) (k : Fin 128) :
      (![embArr (arg m c main_arg8) (arg m c main_arg9) (arg m c main_arg10) (arg m c main_arg11) (arg m c main_arg12) (arg m c main_arg0) (arg m c main_arg1),
          embArr (arg m c main_arg8) (arg m c main_arg9) (arg m c main_arg10) (arg m c main_arg11) (arg m c main_arg12) (arg m c main_arg2) (arg m c main_arg3),
          embArr (arg m c main_arg8) (arg m c main_arg9) (arg m c main_arg10) (arg m c main_arg11) (arg m c main_arg12) (arg m c main_arg4) (arg m c main_arg5),
          embArr (arg m c main_arg8) (arg m c main_arg9) (arg m c main_arg10) (arg m c main_arg11) (arg m c main_arg12) (arg m c main_arg6) (arg m c main_arg7)] t) (ix2 n k)
        = Cert.Net.embedding (fun f d => arg m c main_arg8 (ix2 f d)) (fun d => arg m c main_arg9 (ix1 d))
            (fun k d => arg m c main_arg10 (ix2 k d)) (fun k d => arg m c main_arg11 (ix2 k d)) (fun d => arg m c main_arg12 (ix1 d))
            (fun i j => (![arg m c main_arg0, arg m c main_arg2, arg m c main_arg4, arg m c main_arg6] t) (ix3 n i j))
            (fun i f => (![arg m c main_arg1, arg m c main_arg3, arg m c main_arg5, arg m c main_arg7] t) (ix3 n i f)) k := by
    fin_cases t <;> exact embArr_apply _ _ _ _ _ _ _ n k
  simp only [e]

end Cert.ReferenceIdeal.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Whole
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- The reference's run: the composed term of its operations in its result, the arguments unchanged, no semaphore moved. -/
theorem quiescent_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over extended reals the kernel and the reference return the same vector from the same arguments: row by row, the
    network's score. -/
theorem equal_results : @Cert.algebraic_KernelIdeal_ReferenceIdeal Cert.KernelIdeal.Gen.facts Cert.ReferenceIdeal.Gen.facts :=
  fun m ρ m' ρ' _ hag => ⟨fun c => Cert.KernelIdeal.Whole.value m c,
    (θ_run Cert.KernelIdeal.defs _ _).mono (fun _ h c => ⟨h.1 c, h.2 c⟩)
      (θ_run_and (Cert.KernelIdeal.Whole.run m ρ) (Cert.KernelIdeal.Gen.unchanged m ρ)),
    (θ_run Cert.ReferenceIdeal.defs _ _).mono (fun _ h c => ⟨(h c).1.trans (by
      obtain ⟨h0, h1, h2, h3, h4, h5, h6, h7, h8, h9, h10, h11, h12, h13, h14, h15, h16⟩ := hag c
      funext i
      obtain ⟨n, rfl⟩ : ∃ n : Fin 2048, i = (ix1 n : (⟨1, ![2048]⟩ : Shape).Idx) :=
        ⟨i 0, funext fun a => match a with | ⟨0, _⟩ => rfl⟩
      refine (Cert.ReferenceIdeal.Net.res_apply m' c n).trans ?_
      unfold Cert.ReferenceIdeal.Net.arg
      rw [h0, h1, h2, h3, h4, h5, h6, h7, h8, h9, h10, h11, h12, h13, h14, h15, h16]
      rfl), (h c).2⟩)
      (Cert.ReferenceIdeal.Value.run (F := Ideal) m' ρ')⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial,
  equal_results⟩

end Cert.Proof

end
